-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S50000x256 : Shape := ⟨2, ![50000, 256]⟩
abbrev S50000 : Shape := ⟨1, ![50000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_

variable [Facts]

def fn {F : FTy → Type} [FloatOps F] (main_arg0 : FVec F S50000x256 .f32) (main_arg1 : IVec S50000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_c_0 : IVec S_ 32 := constantI S_ 32 0#32
  let main_v4 : IVec S50000 32 := broadcastInDim S50000 ![] bcast_S_S50000 main_c_0
  let main_v5 : IVec S50000 1 := cmpi .sge main_arg1 main_v4
  let main_c_1 : IVec S_ 32 := constantI S_ 32 64#32
  let main_v6 : IVec S50000 32 := broadcastInDim S50000 ![] bcast_S_S50000 main_c_1
  let main_v7 : IVec S50000 1 := cmpi .slt main_arg1 main_v6
  let main_v8 : IVec S50000 1 := andi main_v5 main_v7
  let main_c_2 : IVec S_ 1 := constantI S_ 1 1#1
  let main_v9 : IVec S_ 1 := (fun x v => Host.reduce IntOp.andi x v reducesTo_S50000_S_d0 h_S_) main_v8 main_c_2
  let main_v10 : IVec S_ 1 := andi main_v3 main_v9
  main_v10
-- ==== Kernel.lean ====
abbrev S50000x256 : Shape := ⟨2, ![50000, 256]⟩
abbrev S50000 : Shape := ⟨1, ![50000]⟩
abbrev S50x1x1000 : Shape := ⟨3, ![50, 1, 1000]⟩
abbrev S64x256 : Shape := ⟨2, ![64, 256]⟩
abbrev S64x128 : Shape := ⟨2, ![64, 128]⟩
abbrev S1000x256 : Shape := ⟨2, ![1000, 256]⟩
abbrev S1x1x1000 : Shape := ⟨3, ![1, 1, 1000]⟩
abbrev S1000 : Shape := ⟨1, ![1000]⟩
abbrev S64x1000 : Shape := ⟨2, ![64, 1000]⟩
abbrev S1x1000 : Shape := ⟨2, ![1, 1000]⟩
abbrev S64 : Shape := ⟨1, ![64]⟩
abbrev S64x1 : Shape := ⟨2, ![64, 1]⟩
abbrev S1000x1 : Shape := ⟨2, ![1000, 1]⟩
abbrev S1000x64 : Shape := ⟨2, ![1000, 64]⟩

abbrev nBuf : Space → Nat
  | .hbm => 7
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50x1x1000, .i32⟩
  | .hbm, ⟨3, _⟩ => ⟨S64x256, .f32⟩
  | .hbm, ⟨4, _⟩ => ⟨S64x256, .f32⟩
  | .hbm, ⟨5, _⟩ => ⟨S64x128, .f32⟩
  | .hbm, ⟨6, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1x1x1000, .i32⟩
  | .local _ .vmem, ⟨3, _⟩ => ⟨S1x1x1000, .i32⟩
  | .local _ .vmem, ⟨4, _⟩ => ⟨S64x256, .f32⟩
  | .local _ .vmem, ⟨5, _⟩ => ⟨S64x256, .f32⟩
  | .local _ .vmem, ⟨6, _⟩ => ⟨S64x128, .f32⟩
  | .local _ .vmem, ⟨7, _⟩ => ⟨S1000x256, .f32⟩
  | .local _ .vmem, ⟨8, _⟩ => ⟨S1000x256, .f32⟩
  | .local _ .vmem, ⟨9, _⟩ => ⟨S1x1x1000, .i32⟩
  | .local _ .vmem, ⟨10, _⟩ => ⟨S1x1x1000, .i32⟩
  | .local _ .vmem, ⟨11, _⟩ => ⟨S64x256, .f32⟩
  | .local _ .vmem, ⟨12, _⟩ => ⟨S64x256, .f32⟩
  | .local _ .vmem, ⟨13, _⟩ => ⟨S64x128, .f32⟩
  | .local _ .vmem, ⟨14, _⟩ => ⟨S1000x256, .f32⟩
  | .local _ .vmem, ⟨15, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S50000x256 : Shape := ⟨2, ![50000, 256]⟩
abbrev S50000 : Shape := ⟨1, ![50000]⟩
abbrev S_ : Shape := ⟨0, ![]⟩
abbrev S64 : Shape := ⟨1, ![64]⟩
abbrev S50000x1 : Shape := ⟨2, ![50000, 1]⟩
abbrev S64x256 : Shape := ⟨2, ![64, 256]⟩
abbrev S64x1 : Shape := ⟨2, ![64, 1]⟩
abbrev S1 : Shape := ⟨1, ![1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S_, .f32⟩
  | .hbm, ⟨3, _⟩ => ⟨S50000, .f32⟩
  | .hbm, ⟨4, _⟩ => ⟨S_, .f32⟩
  | .hbm, ⟨5, _⟩ => ⟨S64, .f32⟩
  | .hbm, ⟨6, _⟩ => ⟨S50000x1, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64x256, .f32⟩
  | .hbm, ⟨13, _⟩ => ⟨S50000x1, .i32⟩
  | .hbm, ⟨14, _⟩ => ⟨S64x256, .f32⟩
  | .hbm, ⟨15, _⟩ => ⟨S64x1, .f32⟩
  | .hbm, ⟨16, _⟩ => ⟨S64x256, .f32⟩
  | .hbm, ⟨17, _⟩ => ⟨S64x256, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S1, .i32⟩
  | .hbm, ⟨27, _⟩ => ⟨S_, .i32⟩
  | .hbm, ⟨28, _⟩ => ⟨S50000x1, .i32⟩
  | .hbm, ⟨29, _⟩ => ⟨S50000x1, .i1⟩
  | .hbm, ⟨30, _⟩ => ⟨S1x1, .i32⟩
  | .hbm, ⟨31, _⟩ => ⟨S50000x1, .i32⟩
  | .hbm, ⟨32, _⟩ => ⟨S50000x1, .i1⟩
  | .hbm, ⟨33, _⟩ => ⟨S50000x1, .i1⟩
  | .hbm, ⟨34, _⟩ => ⟨S_, .i1⟩
  | .hbm, ⟨35, _⟩ => ⟨S50000, .i1⟩
  | .hbm, ⟨36, _⟩ => ⟨S50000x256, .f32⟩
  | .hbm, ⟨37, _⟩ => ⟨S50000x256, .i1⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S64x256, .f32⟩
  | .hbm, ⟨45, _⟩ => ⟨S50000x1, .i32⟩
  | .hbm, ⟨46, _⟩ => ⟨S64x256, .f32⟩
  | .hbm, ⟨47, _⟩ => ⟨S64x1, .f32⟩
  | .hbm, ⟨48, _⟩ => ⟨S64x256, .f32⟩
  | .hbm, ⟨49, _⟩ => ⟨S64x256, .f32⟩
  | .hbm, ⟨50, _⟩ => ⟨S_, .f32⟩
  | .hbm, ⟨51, _⟩ => ⟨S64x256, .f32⟩
  | .hbm, ⟨52, _⟩ => ⟨S64x256, .f32⟩
  | .hbm, ⟨53, _⟩ => ⟨S64x256, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S1, .i32⟩
  | .hbm, ⟨63, _⟩ => ⟨S_, .i32⟩
  | .hbm, ⟨64, _⟩ => ⟨S50000x1, .i32⟩
  | .hbm, ⟨65, _⟩ => ⟨S50000x1, .i1⟩
  | .hbm, ⟨66, _⟩ => ⟨S1x1, .i32⟩
  | .hbm, ⟨67, _⟩ => ⟨S50000x1, .i32⟩
  | .hbm, ⟨68, _⟩ => ⟨S50000x1, .i1⟩
  | .hbm, ⟨69, _⟩ => ⟨S50000x1, .i1⟩
  | .hbm, ⟨70, _⟩ => ⟨S_, .i1⟩
  | .hbm, ⟨71, _⟩ => ⟨S50000, .i1⟩
  | .hbm, ⟨72, _⟩ => ⟨S50000x256, .f32⟩
  | .hbm, ⟨73, _⟩ => ⟨S50000x256, .i1⟩
  | .hbm, ⟨74, _⟩ => ⟨S_, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩

abbrev nD : Nat := 1
abbrev τ : Topo := Topo.v7x

variable {F : FTy → Type} [FloatOps F]
-- ==== Proof.Launch.lean ====
/-
  The kernel run with its result named: the two regions in order, the result array at what region 1's write-backs
  leave, the argument arrays as launched.
-/
module

public import proofs.«01_k».proof.Proof.Gen.KernelIdeal.Frame

@[expose] public section

noncomputable section

namespace Cert.Proof.Launch

open Idealize.ShloMosaic Idealize.ShloMosaic.TcCoe Idealize.SL Idealize.SL.BI Idealize.SL.Sem Idealize.ShloMosaic.Rounds
open Cert.KernelIdeal Cert.KernelIdeal.Gen

open scoped Idealize.SL.BI
open Idealize.SL.BI.BIBase Idealize.SL.BI.Laws Idealize.SL.ProofMode Idealize.SL.RA
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair run from a memory with zero counters ends with the result at region 1's array and both arguments
    unchanged. -/
theorem run : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v2 (by decide))).trans (W3_arr m ρ c 5),
       (h c _ (mem_uc main_arg0 (by decide))).trans (W3_main_arg0 m ρ c),
       (h c _ (mem_uc main_arg1 (by decide))).trans (W3_main_arg1 m ρ c)⟩)

end Cert.Proof.Launch

end
-- ==== Proof.Pre.lean ====
/-
  What the precondition says of the two inputs: every number is a real and every segment word is below 64.
-/
module

public import proofs.«01_k».proof.Pre_inputs
public import proofs.«01_k».proof.Proof.Gen.Pre_inputs
public import Idealize.ShloMosaic.Lib.ReduceAll
public import Idealize.ShloMosaic.Lib.Pointwise
public import Idealize.ShloMosaic.PureOps.Ideal

@[expose] public section

noncomputable section

namespace Cert.Proof.Pre

open Idealize.ShloMosaic
open Cert.Pre_inputs (S50000x256 S50000 S_)

instance : Subsingleton S_.Idx := ⟨fun a b => funext fun i => i.elim0⟩

/-- A word at least zero and less than 64, both signed, is the word of a number below 64. -/
theorem small (w : BitVec 32) (h0 : (0#32).toInt ≤ w.toInt) (h1 : w.toInt < (64#32).toInt) : ∃ g : Fin 64, w = BitVec.ofNat 32 g.val := by
  have e0 : (0#32 : BitVec 32).toInt = 0 := by decide
  have e1 : (64#32 : BitVec 32).toInt = 64 := by decide
  rw [e0] at h0; rw [e1] at h1
  have hlt := w.isLt
  have hw : (w.toNat : Int) = w.toInt := by
    rw [BitVec.toInt_eq_toNat_cond] at h0 h1 ⊢
    split_ifs at * <;> omega
  exact ⟨⟨w.toNat, by omega⟩, by simp⟩

/-- An extended real whose magnitude is below the top is a real. -/
theorem real_of_abs (x : EReal) (h : max x (-x) < ⊤) : ∃ r : ℝ, x = (r : EReal) := by
  induction x with
  | bot => simp at h
  | coe r => exact ⟨r, rfl⟩
  | top => simp at h

theorem inf_word : FloatOps.ofBits (F := Ideal) .f32 0x7F800000#32 = (⊤ : EReal) := by
  simp [Ideal.ofBits, Ideal.ieee]

theorem inputs (x : FVec Ideal S50000x256 .f32) (ids : IVec S50000 32)
    (h : Cert.Pre_inputs.fn (F := Ideal) x ids = fun _ => 1#1) :
    (∀ i, ∃ r : ℝ, x i = (r : EReal)) ∧ ∀ i, ∃ g : Fin 64, ids i = BitVec.ofNat 32 g.val := by
  have hz := congrFun h (fun a => a.elim0)
  obtain ⟨ha, hb⟩ := IntOp.andi_eq_one.1 hz
  constructor
  · intro i
    have hi := Host.reduce_andi_all _ _ _ _ _ ha i
    refine real_of_abs (x i) ?_
    have hc : Ideal.cmp .olt (max (x i) (-x i)) (FloatOps.ofBits (F := Ideal) .f32 0x7F800000#32) = 1#1 := hi
    rw [inf_word] at hc
    by_contra hn
    simp [Ideal.cmp, hn] at hc
  · intro i
    have hi := Host.reduce_andi_all _ _ _ _ _ hb i
    obtain ⟨h0, h1⟩ := IntOp.andi_eq_one.1 hi
    exact small (ids i) (IntOp.cmpi_sge.1 h0) (IntOp.cmpi_slt.1 h1)

end Cert.Proof.Pre

end
-- ==== Proof.Payloads.lean ====
/-
  What the two kernel bodies store, read at one index: the one-hot entry, the three accumulations of the first body and
  the result of the second.
-/
module

public import proofs.«01_k».proof.Proof.Gen.KernelIdeal.Skeleton
public import Idealize.ShloMosaic.Lib.Pointwise

@[expose] public section

set_option maxRecDepth 16384

noncomputable section

namespace Cert.Proof.Payloads

open Idealize.ShloMosaic Idealize.ShloMosaic.TcCoe Idealize.SL.Sem
open Cert.KernelIdeal Cert.KernelIdeal.Gen

/-- One where the word names segment `g`, zero elsewhere. -/
def hot (w : BitVec 32) (g : Fin 64) : EReal := if w = BitVec.ofNat 32 g.val then 1 else 0

/-- A comparison bit widened to a word and read as a number is one or zero. -/
theorem bit_num (a b : BitVec 32) :
    FloatOps.sitofp (F := Ideal) .f32 (BitVec.setWidth 32 (IntOp.cmpi .eq a b)) = if a = b then (1 : EReal) else 0 := by
  by_cases h : a = b
  · subst h; simp [IntOp.cmpi, FloatOps.sitofp]
  · have hb : (a == b) = false := beq_eq_false_iff_ne.2 h
    simp [IntOp.cmpi, FloatOps.sitofp, hb, h]

theorem pay1_at (g : Fin 64) (d : Fin 256) : k0_pay1 (F := Ideal) (ix2 g d) = 0 := by pointwise [k0_pay1]
theorem pay2_at (g : Fin 64) (d : Fin 256) : k0_pay2 (F := Ideal) (ix2 g d) = 0 := by pointwise [k0_pay2]
theorem pay3_at (g : Fin 64) (d : Fin 128) : k0_pay3 (F := Ideal) (ix2 g d) = 0 := by pointwise [k0_pay3]

theorem pay4_at (w : Vec Ideal S1x1x1000 .i32) (g : Fin 64) (k : Fin 1000) :
    k0_pay4 (F := Ideal) w (ix2 g k) = hot (w (ix3 0 0 k)) g := by
  pointwise [k0_pay4]
  rw [bit_num]
  unfold hot
  simp only [eq_comm]

theorem pay5_at (x : Vec Ideal S1000x256 .f32) (w : Vec Ideal S1x1x1000 .i32) (acc : Vec Ideal S64x256 .f32) (g : Fin 64)
    (d : Fin 256) :
    k0_pay5 (F := Ideal) x w acc (ix2 g d) = acc (ix2 g d) + ∑ k : Fin 1000, hot (w (ix3 0 0 k)) g * x (ix2 k d) := by
  pointwise [k0_pay5, pay4_at]

theorem pay6_at (x : Vec Ideal S1000x256 .f32) (w : Vec Ideal S1x1x1000 .i32) (acc : Vec Ideal S64x256 .f32) (g : Fin 64)
    (d : Fin 256) :
    k0_pay6 (F := Ideal) x w acc (ix2 g d)
      = acc (ix2 g d) + ∑ k : Fin 1000, hot (w (ix3 0 0 k)) g * (x (ix2 k d) * x (ix2 k d)) := by
  pointwise [k0_pay6, pay4_at]

theorem pay7_at (w : Vec Ideal S1x1x1000 .i32) (acc : Vec Ideal S64x128 .f32) (g : Fin 64) (l : Fin 128) :
    k0_pay7 (F := Ideal) w acc (ix2 g l) = acc (ix2 g l) + ∑ k : Fin 1000, hot (w (ix3 0 0 k)) g := by
  pointwise [k0_pay7, pay4_at]

/-- The scaled mean of one segment from its row count, sum and sum of squares. -/
def quot (n s q : EReal) : EReal :=
  (s * Ideal.div 1 (max n 1)) * Ideal.rsqrt (q * Ideal.div 1 (max n 1) - (s * Ideal.div 1 (max n 1)) * (s * Ideal.div 1 (max n 1)) + Ideal.ofBits .f32 0x358637BD#32)

theorem apply_at (n : Vec Ideal S64x1 .f32) (s q : Vec Ideal S64x256 .f32) (w : Vec Ideal S1x1x1000 .i32)
    (x : Vec Ideal S1000x256 .f32) (r : Fin 1000) (d : Fin 256) :
    k1_pay1 (F := Ideal) n s q w x (ix2 r d)
      = x (ix2 r d) - ∑ g : Fin 64, hot (w (ix3 0 0 r)) g * quot (n (ix2 g 0)) (s (ix2 g d)) (q (ix2 g d)) := by
  pointwise [k1_pay1, quot]
  simp only [bit_num, hot]

end Cert.Proof.Payloads

end
-- ==== Proof.Sums.lean ====
/-
  What the first grid leaves in its three arrays, at any contents it is entered with: per segment, the sum of the rows
  whose word names it, the sum of their squares, and how many there are.
-/
module

public import proofs.«01_k».proof.Proof.Payloads
public import proofs.«01_k».proof.Proof.Gen.KernelIdeal.Frame
public import Idealize.ShloMosaic.Lib.Pipeline.ValueKit

@[expose] public section

set_option maxRecDepth 16384

noncomputable section

namespace Cert.Proof.Sums

open Idealize.ShloMosaic Idealize.ShloMosaic.TcCoe Idealize.SL.Sem
open Idealize.ShloMosaic.Pipeline (Dat)
open Cert.KernelIdeal Cert.KernelIdeal.Gen Cert.Proof.Payloads

variable (V : (c : Dev nD) → (b : Ref sig .tc) → Buf (Elt Ideal) ((c : Thread nD τ).loc b))

/-- The words of the rows, cut into blocks of a thousand, and the rows themselves: column `d` summed over segment `g`. -/
def tot (w : S50x1x1000.Idx → BitVec 32) (x : S50000x256.Idx → EReal) (g : Fin 64) (d : Fin 256) : EReal :=
  ∑ n : Fin 50000, hot (w (ix3 ⟨n.val / 1000, by omega⟩ 0 ⟨n.val % 1000, by omega⟩)) g * x (ix2 n d)
/-- The same for the squares. -/
def sqs (w : S50x1x1000.Idx → BitVec 32) (x : S50000x256.Idx → EReal) (g : Fin 64) (d : Fin 256) : EReal :=
  ∑ n : Fin 50000, hot (w (ix3 ⟨n.val / 1000, by omega⟩ 0 ⟨n.val % 1000, by omega⟩)) g * (x (ix2 n d) * x (ix2 n d))
/-- The number of rows. -/
def cnt (w : S50x1x1000.Idx → BitVec 32) (g : Fin 64) : EReal :=
  ∑ n : Fin 50000, hot (w (ix3 ⟨n.val / 1000, by omega⟩ 0 ⟨n.val % 1000, by omega⟩)) g

theorem zero2 (j : S64x256.Idx) : k0_pay1 (F := Ideal) j = 0 := by rw [eq_ix2 j]; exact pay1_at _ _
theorem zero3 (j : S64x256.Idx) : k0_pay2 (F := Ideal) j = 0 := by rw [eq_ix2 j]; exact pay2_at _ _
theorem zero4 (j : S64x128.Idx) : k0_pay3 (F := Ideal) j = 0 := by rw [eq_ix2 j]; exact pay3_at _ _

theorem step2 (x : Vec Ideal S1000x256 .f32) (w : Vec Ideal S1x1x1000 .i32) (acc : Vec Ideal S64x256 .f32) (j : S64x256.Idx) :
    k0_pay5 (F := Ideal) x w acc j = acc j + ∑ k : Fin 1000, hot (w (ix3 0 0 k)) (j 0) * x (ix2 k (j 1)) := by
  obtain ⟨g, d, rfl⟩ : ∃ (g : Fin 64) (d : Fin 256), j = ix2 g d := ⟨_, _, eq_ix2 j⟩
  exact pay5_at x w acc g d

theorem step3 (x : Vec Ideal S1000x256 .f32) (w : Vec Ideal S1x1x1000 .i32) (acc : Vec Ideal S64x256 .f32) (j : S64x256.Idx) :
    k0_pay6 (F := Ideal) x w acc j
      = acc j + ∑ k : Fin 1000, hot (w (ix3 0 0 k)) (j 0) * (x (ix2 k (j 1)) * x (ix2 k (j 1))) := by
  obtain ⟨g, d, rfl⟩ : ∃ (g : Fin 64) (d : Fin 256), j = ix2 g d := ⟨_, _, eq_ix2 j⟩
  exact pay6_at x w acc g d

theorem step4 (w : Vec Ideal S1x1x1000 .i32) (acc : Vec Ideal S64x128 .f32) (j : S64x128.Idx) :
    k0_pay7 (F := Ideal) w acc j = acc j + ∑ k : Fin 1000, hot (w (ix3 0 0 k)) (j 0) := by
  obtain ⟨g, d, rfl⟩ : ∃ (g : Fin 64) (d : Fin 128), j = ix2 g d := ⟨_, _, eq_ix2 j⟩
  exact pay7_at w acc g d

/-- Which block each window is on. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] :=
  (by decide +kernel : ∀ t : Fin grid0.N, _)

/-- The sums of the rows. -/
theorem sums2 (c : Dev nD) : (dat0 V c).arrAt 2 cfg0.N = fun i : S64x256.Idx =>
    tot (V c main_v0) (V c main_arg0) (i 0) (i 1) := by
  refine (dat0 V c).arrAt_eq_of_covers 2 _ (by decide +kernel) fun t hf y => ?_
  blk_simp
  rw [after0_2, Pipeline.eq_sum_fin_of_reset_step_apply_of_flush (fun n h => (outsAt0 V c n h).1) 50 (fun _ => 0) _
    (fun t h j => by rw [outsAt0_A V c t h]; frame_out; rw [step2, zero2])
    (fun t h j => by rw [outsAt0_B V c t h]; frame_out; rw [step2])
    t ((flush0_2 t).mp hf) _, zero_add]
  unfold tot
  refine Fin.sum_mul_add_congr fun s k hl => ?_
  refine congrArg₂ (· * ·) (congrArg₂ hot ?_ (Fin.ext (by blk_simp [idx t]))) ?_
  all_goals blk_ext [iblk0, idx t, idx ⟨_, Pipeline.run_point_lt_of_flush t ((flush0_2 t).mp hf) s⟩]

/-- The sums of their squares. -/
theorem sums3 (c : Dev nD) : (dat0 V c).arrAt 3 cfg0.N = fun i : S64x256.Idx =>
    sqs (V c main_v0) (V c main_arg0) (i 0) (i 1) := by
  refine (dat0 V c).arrAt_eq_of_covers 3 _ (by decide +kernel) fun t hf y => ?_
  blk_simp
  rw [after0_3, Pipeline.eq_sum_fin_of_reset_step_apply_of_flush (fun n h => (outsAt0 V c n h).2.1) 50 (fun _ => 0) _
    (fun t h j => by rw [outsAt0_A V c t h]; frame_out; rw [step3, zero3])
    (fun t h j => by rw [outsAt0_B V c t h]; frame_out; rw [step3])
    t ((flush0_3 t).mp hf) _, zero_add]
  unfold sqs
  refine Fin.sum_mul_add_congr fun s k hl => ?_
  refine congrArg₂ (· * ·) (congrArg₂ hot ?_ (Fin.ext (by blk_simp [idx t]))) (congrArg₂ (· * ·) ?_ ?_)
  all_goals blk_ext [iblk0, idx t, idx ⟨_, Pipeline.run_point_lt_of_flush t ((flush0_3 t).mp hf) s⟩]

/-- The numbers of rows, the same in every column. -/
theorem sums4 (c : Dev nD) : (dat0 V c).arrAt 4 cfg0.N = fun i : S64x128.Idx =>
    cnt (V c main_v0) (i 0) := by
  refine (dat0 V c).arrAt_eq_of_covers 4 _ (by decide +kernel) fun t hf y => ?_
  blk_simp
  rw [after0_4, Pipeline.eq_sum_fin_of_reset_step_apply_of_flush (fun n h => (outsAt0 V c n h).2.2) 50 (fun _ => 0) _
    (fun t h j => by rw [outsAt0_A V c t h]; frame_out; rw [step4, zero4])
    (fun t h j => by rw [outsAt0_B V c t h]; frame_out; rw [step4])
    t ((flush0_4 t).mp hf) _, zero_add]
  unfold cnt
  refine Fin.sum_mul_add_congr fun s k hl => ?_
  refine congrArg₂ hot ?_ (Fin.ext (by blk_simp [idx t]))
  blk_ext [iblk0, idx t, idx ⟨_, Pipeline.run_point_lt_of_flush t ((flush0_4 t).mp hf) s⟩]

end Cert.Proof.Sums

end
-- ==== Proof.Apply.lean ====
/-
  What the second grid leaves in the result, at any contents it is entered with: each row less, in every column, the scaled
  mean of the segment its word names.
-/
module

public import proofs.«01_k».proof.Proof.Payloads
public import proofs.«01_k».proof.Proof.Gen.KernelIdeal.Frame
public import Idealize.ShloMosaic.Lib.Pipeline.ValueKit

@[expose] public section

set_option maxRecDepth 16384

noncomputable section

namespace Cert.Proof.Apply

open Idealize.ShloMosaic Idealize.ShloMosaic.TcCoe Idealize.SL.Sem
open Idealize.ShloMosaic.Pipeline (Dat)
open Cert.KernelIdeal Cert.KernelIdeal.Gen Cert.Proof.Payloads

variable (V : (c : Dev nD) → (b : Ref sig .tc) → Buf (Elt Ideal) ((c : Thread nD τ).loc b))

/-- Which block each window is on. -/
theorem idx : ∀ t : Fin cfg1.N, win1_0.index t = ![t.val, 0] ∧ win1_1.index t = ![t.val, 0, 0] ∧ win1_2.index t = ![0, 0]
    ∧ win1_3.index t = ![0, 0] ∧ win1_4.index t = ![0, 0] ∧ win1_5.index t = ![t.val, 0] :=
  (by decide +kernel : ∀ t : Fin grid1.N, _)

/-- Each row less, in every column, the scaled mean of the segment its word names. -/
def out (x : S50000x256.Idx → EReal) (w : S50x1x1000.Idx → BitVec 32) (s q : S64x256.Idx → EReal) (n : S64x128.Idx → EReal)
    (r : Fin 50000) (d : Fin 256) : EReal :=
  x (ix2 r d) - ∑ g : Fin 64, hot (w (ix3 ⟨r.val / 1000, by omega⟩ 0 ⟨r.val % 1000, by omega⟩)) g
    * quot (n (ix2 g 0)) (s (ix2 g d)) (q (ix2 g d))

theorem apply_any (n : Vec Ideal S64x1 .f32) (s q : Vec Ideal S64x256 .f32) (w : Vec Ideal S1x1x1000 .i32)
    (x : Vec Ideal S1000x256 .f32) (j : S1000x256.Idx) :
    k1_pay1 (F := Ideal) n s q w x j
      = x (ix2 (j 0) (j 1)) - ∑ g : Fin 64, hot (w (ix3 0 0 (j 0))) g * quot (n (ix2 g 0)) (s (ix2 g (j 1))) (q (ix2 g (j 1))) := by
  obtain ⟨r, d, rfl⟩ : ∃ (r : Fin 1000) (d : Fin 256), j = ix2 r d := ⟨_, _, eq_ix2 j⟩
  exact apply_at n s q w x r d

/-- The result, row by row. -/
theorem result (c : Dev nD) : (dat1 V c).arrAt 5 cfg1.N = fun i : S50000x256.Idx =>
    out (V c main_arg0) (V c main_v0) (V c main_v1_0) (V c main_v1_1) (V c main_v1_2) (i 0) (i 1) := by
  refine (dat1 V c).arrAt_eq_of_covers 5 _ (by decide +kernel) fun t hf y => ?_
  blk_simp
  rw [after1_5]
  frame_out
  rw [apply_any]
  unfold out
  refine congrArg₂ (· - ·) ?_ (Fin.sum_fin_congr fun g => congrArg₂ (· * ·) (congrArg₂ hot ?_ rfl) ?_)
  · blk_ext [iblk1, idx t]
  · blk_ext [iblk1, idx t]
  refine congr (congrArg₂ quot ?_ ?_) ?_
  · refine (View.ld_unit_apply_of _ _ _ _ _ (ix2 g 0) fun a => ?_).trans ?_
    · match a with
      | ⟨0, _⟩ => exact (Nat.zero_add _).symm
      | ⟨1, _⟩ => rfl
    · blk_ext [iblk1, idx t]
  all_goals blk_ext [iblk1, idx t]

end Cert.Proof.Apply

end
-- ==== Proof.Algebra.lean ====
/-
  The arithmetic over real numbers: the mean of squares less the squared mean is the mean squared deviation, so the
  scaled mean computed from the two sums is the mean over the root of the deviation; and the passage from extended reals.
-/
module

public import proofs.«01_k».proof.Proof.Payloads

@[expose] public section

noncomputable section

namespace Cert.Proof.Algebra

open Idealize.ShloMosaic Cert.Proof.Payloads

variable {N : Nat} (s : Fin N → Prop) [DecidablePred s] (x : Fin N → ℝ)

/-- How many rows are in the segment. -/
def cnt : ℝ := ∑ i, if s i then (1 : ℝ) else 0
/-- Their sum. -/
def tot : ℝ := ∑ i, if s i then x i else 0
/-- The sum of their squares. -/
def sqs : ℝ := ∑ i, if s i then x i * x i else 0
/-- The sum of their squared distances from `μ`. -/
def dev (μ : ℝ) : ℝ := ∑ i, if s i then (x i - μ) * (x i - μ) else 0

theorem cnt_ge_one (i : Fin N) (h : s i) : 1 ≤ cnt s := by
  have : (if s i then (1 : ℝ) else 0) ≤ cnt s :=
    Finset.single_le_sum (f := fun i => if s i then (1 : ℝ) else 0) (fun j _ => by split <;> norm_num) (Finset.mem_univ i)
  rwa [if_pos h] at this

theorem dev_nonneg (μ : ℝ) : 0 ≤ dev s x μ :=
  Finset.sum_nonneg fun i _ => by split; exacts [mul_self_nonneg _, le_refl _]

theorem dev_eq (μ : ℝ) : dev s x μ = sqs s x - 2 * μ * tot s x + μ * μ * cnt s := by
  unfold dev sqs tot cnt
  rw [Finset.mul_sum, Finset.mul_sum, ← Finset.sum_sub_distrib, ← Finset.sum_add_distrib]
  refine Finset.sum_congr rfl fun i _ => ?_
  split <;> ring

/-- The mean squared deviation, two ways. -/
theorem var_eq (h : 1 ≤ cnt s) :
    sqs s x * (1 / cnt s) - (tot s x * (1 / cnt s)) * (tot s x * (1 / cnt s)) = dev s x (tot s x / cnt s) / cnt s := by
  have h0 : cnt s ≠ 0 := by intro e; rw [e] at h; norm_num at h
  rw [dev_eq]
  field_simp
  ring

/-- The word `0x358637BD` is a positive real. -/
theorem eps_pos : ∃ e : ℝ, 0 < e ∧ Ideal.ofBits .f32 0x358637BD#32 = (e : EReal) := by
  refine ⟨(1 + (0x637BD : ℕ) / 2 ^ 23) * 2 ^ (-20 : ℤ), by positivity, ?_⟩
  simp [Ideal.ofBits, Ideal.ieee, -EReal.coe_mul]
  norm_num

/-- The scaled mean of the kernel, where the three sums are real and the segment has a row. -/
theorem quot_eq (h : 1 ≤ cnt s) :
    quot (cnt s : EReal) (tot s x : EReal) (sqs s x : EReal)
      = Ideal.div (Ideal.div (tot s x : EReal) (max (cnt s : EReal) 1))
          (Ideal.sqrt (Ideal.div (dev s x (tot s x / cnt s) : EReal) (max (cnt s : EReal) 1) + Ideal.ofBits .f32 0x358637BD#32)) := by
  obtain ⟨e, he, hw⟩ := eps_pos
  have hc : (0 : ℝ) < cnt s := by linarith
  have hc0 : cnt s ≠ 0 := ne_of_gt hc
  have hmax : max (cnt s : EReal) 1 = (cnt s : EReal) := max_eq_left (by exact_mod_cast h)
  have hdiv : ∀ a b : ℝ, b ≠ 0 → Ideal.div (a : EReal) (b : EReal) = ((a / b : ℝ) : EReal) := fun a b hb => by
    rw [Ideal.div_coe hb]
    norm_cast
    rw [mul_one_div]
  have hone : Ideal.div 1 (cnt s : EReal) = ((1 / cnt s : ℝ) : EReal) := by
    have := hdiv 1 (cnt s) hc0
    simpa using this
  have hv : (0 : ℝ) < dev s x (tot s x / cnt s) / cnt s + e := by
    have := div_nonneg (dev_nonneg s x (tot s x / cnt s)) hc.le
    linarith
  have hs : Real.sqrt (dev s x (tot s x / cnt s) / cnt s + e) ≠ 0 := ne_of_gt (Real.sqrt_pos.2 hv)
  unfold quot
  rw [hmax, hone, hw, hdiv _ _ hc0, hdiv _ _ hc0]
  rw [← EReal.coe_mul, ← EReal.coe_mul, ← EReal.coe_mul, ← EReal.coe_sub, ← EReal.coe_add, ← EReal.coe_add, var_eq s x h,
    Ideal.rsqrt_coe, Ideal.sqrt_coe, if_neg (not_lt.2 hv.le), if_neg (ne_of_gt hv), if_neg (not_lt.2 hv.le), hdiv _ _ hs,
    ← EReal.coe_mul]
  congr 1
  rw [div_eq_mul_inv (tot s x / cnt s), mul_one_div]

/-- A sum over segments that keeps one of them. -/
theorem pick (w : BitVec 32) (g : Fin 64) (hw : w = BitVec.ofNat 32 g.val) (f : Fin 64 → EReal) : ∑ k : Fin 64, hot w k * f k = f g := by
  rw [Finset.sum_eq_single g]
  · unfold hot; rw [if_pos hw, one_mul]
  · intro k _ hk
    unfold hot
    rw [if_neg, zero_mul]
    intro e
    rw [hw] at e
    have := congrArg BitVec.toNat e
    simp only [BitVec.toNat_ofNat] at this
    have h1 := g.isLt; have h2 := k.isLt
    exact hk (Fin.ext (by omega))
  · intro h; exact absurd (Finset.mem_univ g) h

/-- Extended-real indicator sums of reals are the real sums. -/
theorem coe_sum (f : Fin N → ℝ) : ∑ i, (if s i then ((f i : ℝ) : EReal) else 0) = ((∑ i, if s i then f i else 0 : ℝ) : EReal) := by
  refine Eq.trans ?_ (map_sum (⟨⟨Real.toEReal, EReal.coe_zero⟩, EReal.coe_add⟩ : ℝ →+ EReal) _ Finset.univ).symm
  refine Finset.sum_congr rfl fun i _ => ?_
  split <;> simp

end Cert.Proof.Algebra

end
-- ==== Proof.Scatters.lean ====
/-
  A scatter that adds rows into a table, and one that adds numbers into a vector, each read at one entry as a sum over
  all updates of the update times an indicator of where it lands.
-/
module

public import Idealize.ShloMosaic.Lib.Routing.OpsPair
public import Idealize.ShloMosaic.Lib.Pointwise.Index
public import Idealize.ShloMosaic.PureOps.Ideal

@[expose] public section

noncomputable section

namespace Cert.Proof.Scatters

open Idealize.ShloMosaic Idealize.ShloMosaic.Routing

/-- An update number scattered into a vector by a column of indices lands where its index says. -/
theorem lands1 {N n : Nat} (d : ScatterDims (shape1 N) (shape2 n 1) (shape1 n)) (hiw : d.insertedWindowDims = [0])
    (hsd : d.scatterDimsToOperandDims = [0]) (hivd : d.indexVectorDim = 1) (idx : IVec (shape2 n 1) 32) (i : Fin n) (g : Fin N) :
    d.resultIdx? (ix1 i) idx = some (ix1 g) ↔ (idx (ix2 i (0 : Fin 1))).toInt = (g.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun z => (idx z).toInt) (funext fun b => ?_)
    match b with
    | ⟨0, _⟩ =>
      unfold ScatterDims.siIdx
      rw [dif_neg (by rw [hivd]; exact Nat.zero_ne_one)]
      unfold ScatterDims.siCoord
      apply Fin.ext
      have e : ∀ X : Fin 1, (ix1 i X).val = i.val := fun X => by
        obtain rfl : X = 0 := Subsingleton.elim _ _
        rfl
      exact e _
    | ⟨1, _⟩ => exact Subsingleton.elim (α := Fin 1) _ _
  refine (resultIdx?_ix1 d (ix1 i) idx g).trans ?_
  rw [hstart, hwin]
  omega

/-- A row scattered into a table by a column of indices lands, column by column, in the row its index names. -/
theorem lands2 {N n D : Nat} (d : ScatterDims (shape2 N D) (shape2 n 1) (shape2 n D)) (huw : d.updateWindowDims = [1])
    (hiw : d.insertedWindowDims = [0]) (hsd : d.scatterDimsToOperandDims = [0]) (hivd : d.indexVectorDim = 1)
    (idx : IVec (shape2 n 1) 32) (i : Fin n) (e : Fin D) (g : Fin N) (f : Fin D) :
    d.resultIdx? (ix2 i e) idx = some (ix2 g f) ↔ (idx (ix2 i (0 : Fin 1))).toInt = (g.val : Int) ∧ e = f := by
  have hm : (0 : Fin 2) ∈ d.scatterDimsToOperandDims := by rw [hsd]; exact List.mem_singleton.2 rfl
  have hkept : d.sKept = [1] := by
    show (shape2 N D).kept d.insertedWindowDims = _
    rw [hiw]
    rfl
  have hwin0 : d.window (ix2 i e) 0 = 0 := by
    unfold ScatterDims.window
    rw [dif_neg fun h => (of_decide_eq_true (List.mem_filter.1 h).2) (by rw [hiw]; exact List.mem_singleton.2 rfl)]
  have hwin1 : d.window (ix2 i e) 1 = e.val := by
    unfold ScatterDims.window
    rw [dif_pos (by rw [hkept]; exact List.mem_singleton.2 rfl)]
    have q : ∀ X : Fin 2, X = 1 → (ix2 i e X).val = e.val := fun X hX => by subst hX; rfl
    refine q _ ?_
    have hall : ∀ x ∈ d.updateWindowDims, x = 1 := by rw [huw]; exact fun x hx => List.mem_singleton.1 hx
    exact hall _ (List.getElem_mem _)
  have hstart0 : d.start (ix2 i e) idx 0 = (idx (ix2 i (0 : Fin 1))).toInt := by
    unfold ScatterDims.start
    rw [dif_pos hm]
    refine congrArg (fun z => (idx z).toInt) (funext fun b => ?_)
    match b with
    | ⟨0, _⟩ =>
      unfold ScatterDims.siIdx
      rw [dif_neg (by rw [hivd]; exact Nat.zero_ne_one)]
      unfold ScatterDims.siCoord
      apply Fin.ext
      have q : ∀ X : Fin 2, X = 0 → (ix2 i e X).val = i.val := fun X hX => by subst hX; rfl
      refine q _ ?_
      have hall : ∀ x ∈ d.uScatter, x = 0 := by
        show ∀ x ∈ (shape2 n D).kept d.updateWindowDims, x = 0
        rw [huw]
        exact fun x hx => List.mem_singleton.1 hx
      exact hall _ (List.getElem_mem _)
    | ⟨1, _⟩ => exact Subsingleton.elim (α := Fin 1) _ _
  have hstart1 : d.start (ix2 i e) idx 1 = 0 := by
    unfold ScatterDims.start
    rw [dif_neg fun h => by rw [hsd] at h; exact absurd (List.mem_singleton.1 h) (by decide : (1 : Fin 2) ≠ 0)]
  refine (resultIdx?_ix2 d (ix2 i e) idx g f).trans ?_
  rw [Fin.ext_iff, hstart0, hwin0, hstart1, hwin1]
  omega

/-- The vector scatter at entry `g`: what it starts from and every update whose index is `g`. -/
theorem add1 {N n : Nat} (d : ScatterDims (shape1 N) (shape2 n 1) (shape1 n)) (hiw : d.insertedWindowDims = [0])
    (hsd : d.scatterDimsToOperandDims = [0]) (hivd : d.indexVectorDim = 1) (x : FVec Ideal (shape1 N) .f32)
    (idx : IVec (shape2 n 1) 32) (u : FVec Ideal (shape1 n) .f32) (g : Fin N) :
    Host.scatterAdd d x idx u (ix1 g)
      = x (ix1 g) + ∑ i : Fin n, if (idx (ix2 i (0 : Fin 1))).toInt = (g.val : Int) then u (ix1 i) else 0 := by
  show x (ix1 g) + ∑ j ∈ Finset.univ.filter (fun j => d.resultIdx? j idx = some (ix1 g)), u j = _
  rw [Finset.sum_filter, sum_idx1]
  simp only [lands1 d hiw hsd hivd]

/-- The table scatter at entry `(g, f)`: what it starts from and entry `f` of every row whose index is `g`. -/
theorem add2 {N n D : Nat} (d : ScatterDims (shape2 N D) (shape2 n 1) (shape2 n D)) (huw : d.updateWindowDims = [1])
    (hiw : d.insertedWindowDims = [0]) (hsd : d.scatterDimsToOperandDims = [0]) (hivd : d.indexVectorDim = 1)
    (x : FVec Ideal (shape2 N D) .f32) (idx : IVec (shape2 n 1) 32) (u : FVec Ideal (shape2 n D) .f32) (g : Fin N) (f : Fin D) :
    Host.scatterAdd d x idx u (ix2 g f)
      = x (ix2 g f) + ∑ i : Fin n, if (idx (ix2 i (0 : Fin 1))).toInt = (g.val : Int) then u (ix2 i f) else 0 := by
  show x (ix2 g f) + ∑ j ∈ Finset.univ.filter (fun j => d.resultIdx? j idx = some (ix2 g f)), u j = _
  rw [Finset.sum_filter, sum_idx2]
  simp only [lands2 d huw hiw hsd hivd]
  congr 1
  refine Finset.sum_congr rfl fun i _ => ?_
  by_cases h : (idx (ix2 i (0 : Fin 1))).toInt = (g.val : Int)
  · simp [h]
  · simp [h]

end Cert.Proof.Scatters

end
-- ==== Proof.Ref.lean ====
/-
  The reference read at one entry, where every segment word is below 64: the entry less the quotient of the mean of its
  segment and the root of the mean squared deviation.
-/
module

public import proofs.«01_k».proof.Proof.Scatters
public import proofs.«01_k».proof.Proof.Gen.ReferenceIdeal.Read
public import Idealize.ShloMosaic.Lib.Routing.Ops
public import Idealize.ShloMosaic.Lib.ReduceAll
public import Idealize.ShloMosaic.Lib.Pointwise

@[expose] public section

set_option maxRecDepth 16384

noncomputable section

namespace Cert.Proof.Ref

open Idealize.ShloMosaic
open Cert.ReferenceIdeal Cert.ReferenceIdeal.Gen Cert.ReferenceIdeal.Read Cert.Proof.Scatters

variable (x : FVec Ideal S50000x256 .f32) (ids : IVec S50000 32) (seg : Fin 50000 → Fin 64)
  (hseg : ∀ n : Fin 50000, ids (ix1 n) = BitVec.ofNat 32 (seg n).val)

theorem toInt_seg (g : Fin 64) : (BitVec.ofNat 32 g.val).toInt = (g.val : Int) := by
  have := g.isLt
  rw [BitVec.toInt_eq_toNat_cond, BitVec.toNat_ofNat]
  split_ifs <;> omega

theorem zero_word : FloatOps.ofBits (F := Ideal) .f32 0x00000000#32 = (0 : EReal) := by simp [Ideal.ofBits, Ideal.ieee]
theorem one_word : FloatOps.ofBits (F := Ideal) .f32 0x3F800000#32 = (1 : EReal) := by
  simp [Ideal.ofBits, Ideal.ieee, -EReal.coe_mul]
  try norm_num

/-- The number of rows of segment `g`. -/
def rows (g : Fin 64) : EReal := ∑ n : Fin 50000, if seg n = g then 1 else 0
/-- The mean of column `d` over them (over one row where there are none). -/
def mean (g : Fin 64) (d : Fin 256) : EReal :=
  Ideal.div (∑ n : Fin 50000, if seg n = g then x (ix2 n d) else 0) (max (rows seg g) 1)
/-- The root of the mean squared deviation, with the small constant added. -/
def root (g : Fin 64) (d : Fin 256) : EReal :=
  Ideal.sqrt (Ideal.div (∑ n : Fin 50000, if seg n = g then (x (ix2 n d) - mean x seg (seg n) d) * (x (ix2 n d) - mean x seg (seg n) d) else 0)
    (max (rows seg g) 1) + Ideal.ofBits .f32 0x358637BD#32)

theorem ix_main_v2 (n : Fin 50000) : idx_main_v2 (ix2 n (0 : Fin 1)) = ix1 n := by
  funext a
  match a with
  | ⟨0, _⟩ => rfl
theorem ix_main_v7 (n : Fin 50000) : idx_main_v7 (ix2 n (0 : Fin 1)) = ix1 n := by
  funext a
  match a with
  | ⟨0, _⟩ => rfl
theorem ix_main_v16 (n : Fin 50000) : idx_main_v16 (ix2 n (0 : Fin 1)) = ix1 n := by
  funext a
  match a with
  | ⟨0, _⟩ => rfl
theorem ix_main_call0_v5 (n : Fin 50000) : idx_main_call0_v5 (ix2 n (0 : Fin 1)) = ix1 n := by
  funext a
  match a with
  | ⟨0, _⟩ => rfl
theorem ix_main_call0_v14 (n : Fin 50000) (d : Fin 256) : idx_main_call0_v14 (ix2 n d) = ix1 n := by
  funext a
  match a with
  | ⟨0, _⟩ => rfl
theorem ix_main_call1_v14 (n : Fin 50000) (d : Fin 256) : idx_main_call1_v14 (ix2 n d) = ix1 n := by
  funext a
  match a with
  | ⟨0, _⟩ => rfl
theorem ix_main_v10 (g : Fin 64) (d : Fin 256) : idx_main_v9 (idx_main_v10 (ix2 g d)) = ix1 g := by
  funext a
  match a with
  | ⟨0, _⟩ => rfl
theorem ix_main_v19 (g : Fin 64) (d : Fin 256) : idx_main_v18 (idx_main_v19 (ix2 g d)) = ix1 g := by
  funext a
  match a with
  | ⟨0, _⟩ => rfl

include hseg

theorem lands (n : Fin 50000) (g : Fin 64) : (ids (ix1 n)).toInt = (g.val : Int) ↔ seg n = g := by
  rw [hseg n, toInt_seg, Fin.ext_iff]
  omega

theorem v5_at (g : Fin 64) : val_main_v5 (F := Ideal) ids (ix1 g) = max (rows seg g) 1 := by
  have h3 : val_main_v3 (F := Ideal) ids (ix1 g) = rows seg g := by
    unfold val_main_v3
    rw [add1 _ rfl rfl rfl]
    simp only [val_main_v1_apply, val_main_cst_0_apply, val_main_v0_apply, val_main_cst_apply, zero_word, one_word, zero_add]
    unfold rows
    refine Finset.sum_congr rfl fun n _ => ?_
    rw [val_main_v2_apply, ix_main_v2]
    exact if_congr (lands ids seg hseg n g) rfl rfl
  rw [val_main_v5_apply, h3, val_main_v4_apply, val_main_cst_1_apply, one_word]
  rfl

theorem v11_at (g : Fin 64) (d : Fin 256) : val_main_v11 (F := Ideal) x ids (ix2 g d) = mean x seg g d := by
  have h8 : val_main_v8 (F := Ideal) x ids (ix2 g d) = ∑ n : Fin 50000, if seg n = g then x (ix2 n d) else 0 := by
    unfold val_main_v8
    rw [add2 _ rfl rfl rfl rfl]
    simp only [val_main_v6_apply, val_main_cst_2_apply, zero_word, zero_add]
    refine Finset.sum_congr rfl fun n _ => ?_
    rw [val_main_v7_apply, ix_main_v7]
    exact if_congr (lands ids seg hseg n g) rfl rfl
  rw [val_main_v11_apply, h8, val_main_v10_apply, val_main_v9_apply, ix_main_v10, v5_at ids seg hseg g]
  rfl

/-- The row index a take reads through, and its in-range bit. -/
theorem call0_word (n : Fin 50000) : val_main_call0_v5 (F := Ideal) ids (ix2 n (0 : Fin 1)) = BitVec.ofNat 32 (seg n).val := by
  have hlt := (seg n).isLt
  rw [val_main_call0_v5_apply, val_main_call0_v4_apply, val_main_call0_v1_apply, val_main_call0_v0_apply, val_main_call0_c_apply]
  have e : ids (idx_main_call0_v5 (ix2 n (0 : Fin 1))) = BitVec.ofNat 32 (seg n).val := by rw [ix_main_call0_v5]; exact hseg n
  rw [e]
  exact Routing.wrap_of_lt _ _ (by rw [BitVec.toNat_ofNat]; omega)

theorem call0_bit (n : Fin 50000) : val_main_call0_v12 (F := Ideal) ids (ix1 n) = 1#1 := by
  unfold val_main_call0_v12
  refine Host.reduce_andi_one _ _ _ _ _ rfl fun i => ?_
  obtain ⟨k, z, rfl⟩ : ∃ (k : Fin 50000) (z : Fin 1), i = ix2 k z := ⟨_, _, eq_ix2 i⟩
  obtain rfl : z = 0 := Subsingleton.elim _ _
  have hlt := (seg k).isLt
  rw [val_main_call0_v11_apply, val_main_call0_v7_apply, val_main_call0_v10_apply, call0_word ids seg hseg k,
    val_main_call0_v6_apply, val_main_call0_c_2_apply, val_main_call0_v9_apply, val_main_call0_v8_apply, val_main_call0_c_1_apply]
  refine IntOp.andi_eq_one.2 ⟨IntOp.cmpi_sge.2 ?_, IntOp.cmpi_sle.2 ?_⟩
  · rw [toInt_seg]; have : (0#32 : BitVec 32).toInt = 0 := by decide
    omega
  · rw [toInt_seg]; have : (63#32 : BitVec 32).toInt = 63 := by decide
    omega

theorem v12_at (n : Fin 50000) (d : Fin 256) : val_main_v12 (F := Ideal) x ids (ix2 n d) = mean x seg (seg n) d := by
  have hb : val_main_call0_v14 (F := Ideal) ids (ix2 n d) = 1#1 := by
    rw [val_main_call0_v14_apply, ix_main_call0_v14]; exact call0_bit ids seg hseg n
  have hg : val_main_call0_v13 (F := Ideal) x ids (ix2 n d) = mean x seg (seg n) d := by
    unfold val_main_call0_v13
    refine (Routing.gather_row _ rfl rfl rfl rfl rfl _ _ n d (seg n) (call0_word ids seg hseg n) (by have := (seg n).isLt; omega)).trans ?_
    exact v11_at x ids seg hseg (seg n) d
  rw [val_main_v12_apply, hb, hg]
  unfold Scalar.select
  exact if_pos rfl

theorem v23_at (g : Fin 64) (d : Fin 256) : val_main_v23 (F := Ideal) x ids (ix2 g d) = root x seg g d := by
  have h17 : val_main_v17 (F := Ideal) x ids (ix2 g d)
      = ∑ n : Fin 50000, if seg n = g then (x (ix2 n d) - mean x seg (seg n) d) * (x (ix2 n d) - mean x seg (seg n) d) else 0 := by
    unfold val_main_v17
    rw [add2 _ rfl rfl rfl rfl]
    simp only [val_main_v15_apply, val_main_cst_3_apply, zero_word, zero_add]
    refine Finset.sum_congr rfl fun n _ => ?_
    rw [val_main_v16_apply, ix_main_v16, val_main_v14_apply, val_main_v13_apply, v12_at x ids seg hseg]
    exact if_congr (lands ids seg hseg n g) rfl rfl
  rw [val_main_v23_apply, val_main_v22_apply, val_main_v20_apply, h17, val_main_v19_apply, val_main_v18_apply, ix_main_v19, v5_at ids seg hseg g,
    val_main_v21_apply, val_main_cst_4_apply]
  simp only [Ideal.hostUnary_sqrt_def, Ideal.hostDivf_def, Ideal.addf_def]
  unfold root
  rfl

theorem call1_word (n : Fin 50000) : val_main_call1_v5 (F := Ideal) ids (ix2 n (0 : Fin 1)) = BitVec.ofNat 32 (seg n).val :=
  call0_word ids seg hseg n

theorem call1_bit (n : Fin 50000) : val_main_call1_v12 (F := Ideal) ids (ix1 n) = 1#1 := call0_bit ids seg hseg n

theorem v24_at (n : Fin 50000) (d : Fin 256) : val_main_v24 (F := Ideal) x ids (ix2 n d) = root x seg (seg n) d := by
  have hb : val_main_call1_v14 (F := Ideal) ids (ix2 n d) = 1#1 := by
    rw [val_main_call1_v14_apply, ix_main_call1_v14]; exact call1_bit ids seg hseg n
  have hg : val_main_call1_v13 (F := Ideal) x ids (ix2 n d) = root x seg (seg n) d := by
    unfold val_main_call1_v13
    refine (Routing.gather_row _ rfl rfl rfl rfl rfl _ _ n d (seg n) (call1_word ids seg hseg n) (by have := (seg n).isLt; omega)).trans ?_
    exact v23_at x ids seg hseg (seg n) d
  rw [val_main_v24_apply, hb, hg]
  unfold Scalar.select
  exact if_pos rfl

/-- The reference at one entry. -/
theorem v26_at (n : Fin 50000) (d : Fin 256) :
    val_main_v26 (F := Ideal) x ids (ix2 n d) = x (ix2 n d) - Ideal.div (mean x seg (seg n) d) (root x seg (seg n) d) := by
  rw [val_main_v26_apply, val_main_v25_apply, v12_at x ids seg hseg, v24_at x ids seg hseg]
  rfl

end Cert.Proof.Ref

end
-- ==== Proof.Value.lean ====
/-
  The kernel's result as a function of the two inputs, and its equality with the reference's where every number is real and
  every segment word is below 64.
-/
module

public import proofs.«01_k».proof.Proof.Sums
public import proofs.«01_k».proof.Proof.Apply
public import proofs.«01_k».proof.Proof.Algebra
public import proofs.«01_k».proof.Proof.Ref
public import Idealize.ShloMosaic.Lib.Claim

@[expose] public section

set_option maxRecDepth 16384

noncomputable section

namespace Cert.Proof.Value

open Idealize.ShloMosaic Idealize.ShloMosaic.TcCoe Idealize.SL.Sem
open Cert.KernelIdeal Cert.KernelIdeal.Gen Cert.Proof.Payloads

section Kernel

variable (m : (ℓ : Loc nD τ sig) → Buf (Elt Ideal) ℓ) (ρ : Dev nD → PrngReg)

/-- The segment words, cut into blocks of a thousand. -/
def blocks (ids : S50000.Idx → BitVec 32) : S50x1x1000.Idx → BitVec 32 := fun i => shapeCast S50x1x1000 ids shapeCasts_S50000_S50x1x1000 i

theorem blocks_at (ids : S50000.Idx → BitVec 32) (n : Fin 50000) :
    blocks ids (ix3 ⟨n.val / 1000, by omega⟩ 0 ⟨n.val % 1000, by omega⟩) = ids (ix1 n) := by
  unfold blocks
  pointwise
  blk_ext

theorem enter_words (c : Dev nD) : V1 m ρ c main_v0 = blocks (m ((c : Thread nD τ).loc main_arg1)) := by
  show StableHlo.after hostOps0 (W0 m ρ c) (Proc.devRef .tc main_v0) = _
  after_results
  rfl

theorem enter_rows (c : Dev nD) : V1 m ρ c main_arg0 = m ((c : Thread nD τ).loc main_arg0) := W1_args m ρ c main_arg0 (by decide)

theorem mid_rows (c : Dev nD) : V2 m ρ c main_arg0 = m ((c : Thread nD τ).loc main_arg0) := W2_args m ρ c main_arg0 (by decide)

theorem mid_words (c : Dev nD) : V2 m ρ c main_v0 = blocks (m ((c : Thread nD τ).loc main_arg1)) :=
  (W2_of m ρ c main_v0 (by decide +kernel)).trans (enter_words m ρ c)

theorem mid2 (c : Dev nD) : V2 m ρ c main_v1_0 = (dat0 (V1 m ρ) c).arrAt 2 cfg0.N := W2_arr m ρ c 2
theorem mid3 (c : Dev nD) : V2 m ρ c main_v1_1 = (dat0 (V1 m ρ) c).arrAt 3 cfg0.N := W2_arr m ρ c 3
theorem mid4 (c : Dev nD) : V2 m ρ c main_v1_2 = (dat0 (V1 m ρ) c).arrAt 4 cfg0.N := W2_arr m ρ c 4

/-- The kernel's result as a function of the two inputs. -/
def kernel (x : S50000x256.Idx → EReal) (ids : S50000.Idx → BitVec 32) (n : Fin 50000) (d : Fin 256) : EReal :=
  x (ix2 n d) - ∑ g : Fin 64, hot (ids (ix1 n)) g
    * quot (∑ r : Fin 50000, hot (ids (ix1 r)) g) (∑ r : Fin 50000, hot (ids (ix1 r)) g * x (ix2 r d))
        (∑ r : Fin 50000, hot (ids (ix1 r)) g * (x (ix2 r d) * x (ix2 r d)))

theorem result (c : Dev nD) : (dat1 (V2 m ρ) c).arrAt 5 cfg1.N = fun i : S50000x256.Idx =>
    kernel (m ((c : Thread nD τ).loc main_arg0)) (m ((c : Thread nD τ).loc main_arg1)) (i 0) (i 1) := by
  rw [Apply.result, mid_rows, mid_words, mid2, mid3, mid4, Sums.sums2, Sums.sums3, Sums.sums4, enter_words, enter_rows]
  funext i
  obtain ⟨n, d, rfl⟩ : ∃ (n : Fin 50000) (d : Fin 256), i = ix2 n d := ⟨_, _, eq_ix2 i⟩
  show Apply.out _ _ _ _ _ n d = kernel _ _ n d
  unfold Apply.out kernel Sums.tot Sums.sqs Sums.cnt
  simp only [blocks_at, ix2_0, ix2_1]

end Kernel

/-- A one-hot entry times a number keeps the number where the segment is this one. -/
theorem hot_mul (seg g : Fin 64) (y : EReal) : hot (BitVec.ofNat 32 seg.val) g * y = if seg = g then y else 0 := by
  unfold hot
  by_cases h : seg = g
  · subst h; simp
  · rw [if_neg h, if_neg, zero_mul]
    intro e
    have := congrArg BitVec.toNat e
    simp only [BitVec.toNat_ofNat] at this
    have h1 := g.isLt; have h2 := seg.isLt
    exact h (Fin.ext (by omega))

/-- The two results, entry by entry. -/
theorem agree (x : S50000x256.Idx → EReal) (ids : S50000.Idx → BitVec 32) (hx : ∀ i, ∃ r : ℝ, x i = (r : EReal))
    (hids : ∀ i, ∃ g : Fin 64, ids i = BitVec.ofNat 32 g.val) (n : Fin 50000) (d : Fin 256) :
    kernel x ids n d = Cert.ReferenceIdeal.Read.val_main_v26 (F := Ideal) x ids (ix2 n d) := by
  choose xr hxr using hx
  choose sg hsg using hids
  obtain ⟨seg, hseg'⟩ : ∃ seg : Fin 50000 → Fin 64, ∀ r, seg r = sg (ix1 r) := ⟨fun r => sg (ix1 r), fun _ => rfl⟩
  have hseg : ∀ r, ids (ix1 r) = BitVec.ofNat 32 (seg r).val := fun r => by rw [hseg', hsg]
  rw [Ref.v26_at x ids seg hseg]
  unfold kernel
  rw [Algebra.pick (ids (ix1 n)) (seg n) (hseg n)]
  refine congrArg (fun z => x (ix2 n d) - z) ?_
  obtain ⟨y, hy⟩ : ∃ y : Fin 50000 → ℝ, ∀ r, x (ix2 r d) = (y r : EReal) := ⟨fun r => xr (ix2 r d), fun r => hxr _⟩
  let s : Fin 50000 → Prop := fun r => seg r = seg n
  have h1 : 1 ≤ Algebra.cnt s := Algebra.cnt_ge_one s n rfl
  have hn : ∑ r : Fin 50000, hot (ids (ix1 r)) (seg n) = (Algebra.cnt s : EReal) := by
    rw [Algebra.cnt, ← Algebra.coe_sum s (fun _ => 1)]
    refine Finset.sum_congr rfl fun r _ => ?_
    rw [← mul_one (hot _ _), hseg, hot_mul]
    rfl
  have hr : Ref.rows seg (seg n) = (Algebra.cnt s : EReal) := by
    rw [Algebra.cnt, ← Algebra.coe_sum s (fun _ => 1)]
    rfl
  have ht : ∑ r : Fin 50000, hot (ids (ix1 r)) (seg n) * x (ix2 r d) = (Algebra.tot s y : EReal) := by
    rw [Algebra.tot, ← Algebra.coe_sum s y]
    refine Finset.sum_congr rfl fun r _ => ?_
    rw [hseg, hot_mul, hy]
  have hq : ∑ r : Fin 50000, hot (ids (ix1 r)) (seg n) * (x (ix2 r d) * x (ix2 r d)) = (Algebra.sqs s y : EReal) := by
    rw [Algebra.sqs, ← Algebra.coe_sum s (fun r => y r * y r)]
    refine Finset.sum_congr rfl fun r _ => ?_
    rw [hseg, hot_mul, hy, EReal.coe_mul]
  have hdv : Ideal.div (Algebra.tot s y : EReal) (max (Algebra.cnt s : EReal) 1) = ((Algebra.tot s y / Algebra.cnt s : ℝ) : EReal) := by
    have hc0 : Algebra.cnt s ≠ 0 := by intro e; rw [e] at h1; norm_num at h1
    rw [max_eq_left (by exact_mod_cast h1), Ideal.div_coe hc0, ← EReal.coe_mul, mul_one_div]
  have hm : Ref.mean x seg (seg n) d = ((Algebra.tot s y / Algebra.cnt s : ℝ) : EReal) := by
    have hsum : (∑ r : Fin 50000, if seg r = seg n then x (ix2 r d) else 0) = (Algebra.tot s y : EReal) := by
      rw [Algebra.tot, ← Algebra.coe_sum s y]
      exact Finset.sum_congr rfl fun r _ => if_congr Iff.rfl (hy r) rfl
    unfold Ref.mean
    rw [hsum, hr, hdv]
  have hd : (∑ r : Fin 50000, if seg r = seg n then (x (ix2 r d) - Ref.mean x seg (seg r) d) * (x (ix2 r d) - Ref.mean x seg (seg r) d) else 0)
      = (Algebra.dev s y (Algebra.tot s y / Algebra.cnt s) : EReal) := by
    rw [Algebra.dev, ← Algebra.coe_sum s (fun r => (y r - Algebra.tot s y / Algebra.cnt s) * (y r - Algebra.tot s y / Algebra.cnt s))]
    refine Finset.sum_congr rfl fun r _ => ?_
    by_cases h : seg r = seg n
    · have hs : s r := h
      rw [if_pos h, if_pos hs, h, hm, hy, EReal.coe_mul, EReal.coe_sub]
    · have hs : ¬ s r := h
      rw [if_neg h, if_neg hs]
  rw [hn, ht, hq, Algebra.quot_eq s y h1]
  unfold Ref.root
  rw [hd, hm, hr, hdv]

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs
public import proofs.«01_k».proof.Proof.Gen.ReferenceIdeal.Run
public import proofs.«01_k».proof.Proof.Gen.ReferenceIdeal.Read
public import proofs.«01_k».proof.Proof.Launch
public import proofs.«01_k».proof.Proof.Pre
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference leaves both arguments as they were; it declares no counter, so none can end above zero. -/
theorem frameReference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems rfl r.2⟩)
    (Cert.ReferenceIdeal.Value.run (F := Ideal) m ρ)

/-- The two idealized programs end with the same result, the kernel's being read first. -/
theorem sameResult : Cert.algebraic_KernelIdeal_ReferenceIdeal_pre_inputs := by
  intro m g m' g' hpre hagree
  refine ⟨fun c => (Cert.KernelIdeal.Gen.dat1 (Cert.KernelIdeal.Gen.V2 m g) c).arrAt 5 Cert.KernelIdeal.cfg1.N,
    Launch.run m g, ?_⟩
  refine (θ_run Cert.ReferenceIdeal.defs _ _).mono (fun r h c => ⟨(h c).1.trans ?_, (h c).2⟩)
    (Cert.ReferenceIdeal.Value.run (F := Ideal) m' g')
  obtain ⟨hx, hids⟩ := Pre.inputs _ _ (hpre c)
  refine (Cert.ReferenceIdeal.Read.val_main_v26_eq m' c).trans ?_
  rw [(hagree c).1, (hagree c).2]
  refine Eq.trans ?_ (Value.result m g c).symm
  funext i
  refine Eq.trans ?_ (Value.agree _ _ hx hids (i 0) (i 1)).symm
  exact congrArg _ (eq_ix2 i)

theorem claim : Cert.Claim := ⟨Cert.Kernel.Gen.facts, Cert.KernelIdeal.Gen.facts, Cert.ReferenceIdeal.Gen.facts, Cert.Pre_inputs.Gen.facts,
  fun m g _ => Cert.Kernel.Gen.frame m g, fun m g _ => Cert.KernelIdeal.Gen.frame m g,
  fun m g _ => Cert.KernelIdeal.Gen.frame m g, fun m g _ => frameReference m g, fun m g _ => frameReference m g,
  trivial, sameResult⟩

end Cert.Proof

end
